-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "log2e_over_t" .f32 0x4099E331#32 ((((5033165 / 16777216) * (Real.log 2))⁻¹ : ℝ) : EReal)
  ∧ IdealRules.named_const.Statement Cert.KernelIdeal.κ "shift_ln2" .f32 0x41DDCE9E#32 ((40 * (Real.log 2) : ℝ) : EReal)
  ∧ IdealRules.named_const.Statement Cert.KernelIdeal.κ "ln2" .f32 0x3F317218#32 ((Real.log 2 : ℝ) : EReal)

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S64x128 : Shape := ⟨2, ![64, 128]⟩
abbrev S64 : Shape := ⟨1, ![64]⟩
abbrev S500000x128 : Shape := ⟨2, ![500000, 128]⟩
abbrev S5 : Shape := ⟨1, ![5]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S64x128 .f32) (main_arg1 : IVec S64 32) (main_arg2 : FVec F S500000x128 .f32) (main_arg3 : IVec S5 32) : IVec S64 1 :=
  let main_c : IVec S_ 32 := constantI S_ 32 0#32
  let main_v0 : IVec S64 32 := broadcastInDim S64 ![] bcast_S_S64 main_c
  let main_v1 : IVec S64 1 := cmpi .sge main_arg1 main_v0
  let main_c_0 : IVec S_ 32 := constantI S_ 32 5#32
  let main_v2 : IVec S64 32 := broadcastInDim S64 ![] bcast_S_S64 main_c_0
  let main_v3 : IVec S64 1 := cmpi .slt main_arg1 main_v2
  let main_v4 : IVec S64 1 := andi main_v1 main_v3
  main_v4
-- ==== Kernel.lean ====
abbrev S64x128 : Shape := ⟨2, ![64, 128]⟩
abbrev S64 : Shape := ⟨1, ![64]⟩
abbrev S500000x128 : Shape := ⟨2, ![500000, 128]⟩
abbrev S5 : Shape := ⟨1, ![5]⟩
abbrev S64x1 : Shape := ⟨2, ![64, 1]⟩
abbrev S1x1 : Shape := ⟨2, ![1, 1]⟩
abbrev S_ : Shape := ⟨0, ![]⟩
abbrev S10000x128 : Shape := ⟨2, ![10000, 128]⟩
abbrev S64x10000 : Shape := ⟨2, ![64, 10000]⟩
abbrev S1x64x1 : Shape := ⟨3, ![1, 64, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S64x128, .f32⟩
  | .hbm, ⟨1, _⟩ => ⟨S64, .i32⟩
  | .hbm, ⟨2, _⟩ => ⟨S500000x128, .f32⟩
  | .hbm, ⟨3, _⟩ => ⟨S5, .i32⟩
  | .hbm, ⟨4, _⟩ => ⟨S64x1, .i32⟩
  | .hbm, ⟨5, _⟩ => ⟨S1x1, .f32⟩
  | .hbm, ⟨6, _⟩ => ⟨S_, .f32⟩
  | .local _ .vmem, ⟨0, _⟩ => ⟨S64x128, .f32⟩
  | .local _ .vmem, ⟨1, _⟩ => ⟨S64x1, .i32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S1x1, .f32⟩
  | .local _ .vmem, ⟨7, _⟩ => ⟨S64x1, .f32⟩
  | .local _ .vmem, ⟨8, _⟩ => ⟨S64x1, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v117 : BitVec 1 := Scalar.cmpi .eq arg0 c24_i32
  let v118 : BitVec 32 := Scalar.extui v117
  let c0_i32_53 : BitVec 32 := 0#32
  let v119 : BitVec 1 := Scalar.cmpi .ne v118 c0_i32_53
  v119

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "eps_sq" => some ((5316911940649 / 5316911983139663491615228241121378304 : ℝ) : EReal)
  | "ln2" => some ((Real.log 2 : ℝ) : EReal)
  | "log2e_over_t" => some ((((5033165 / 16777216) * (Real.log 2))⁻¹ : ℝ) : EReal)
  | "shift_ln2" => some ((40 * (Real.log 2) : ℝ) : EReal)
  | _ => none
-- ==== ReferenceIdeal.lean ====
abbrev S64x128 : Shape := ⟨2, ![64, 128]⟩
abbrev S64 : Shape := ⟨1, ![64]⟩
abbrev S500000x128 : Shape := ⟨2, ![500000, 128]⟩
abbrev S5 : Shape := ⟨1, ![5]⟩
abbrev S_ : Shape := ⟨0, ![]⟩
abbrev S64x1 : Shape := ⟨2, ![64, 1]⟩
abbrev S128x500000 : Shape := ⟨2, ![128, 500000]⟩
abbrev S64x500000 : Shape := ⟨2, ![64, 500000]⟩
abbrev S64x1x1 : Shape := ⟨3, ![64, 1, 1]⟩
abbrev S1 : Shape := ⟨1, ![1]⟩
abbrev S1x1x1 : Shape := ⟨3, ![1, 1, 1]⟩
abbrev S2 : Shape := ⟨1, ![2]⟩
abbrev S1x2 : Shape := ⟨2, ![1, 2]⟩
abbrev S64x2 : Shape := ⟨2, ![64, 2]⟩

abbrev nBuf : Space → Nat
  | .hbm => 86
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64, .i32⟩
  | .hbm, ⟨2, _⟩ => ⟨S500000x128, .f32⟩
  | .hbm, ⟨3, _⟩ => ⟨S5, .i32⟩
  | .hbm, ⟨4, _⟩ => ⟨S64x128, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x128, .f32⟩
  | .hbm, ⟨13, _⟩ => ⟨S64x128, .f32⟩
  | .hbm, ⟨14, _⟩ => ⟨S128x500000, .f32⟩
  | .hbm, ⟨15, _⟩ => ⟨S64x500000, .f32⟩
  | .hbm, ⟨16, _⟩ => ⟨S_, .f32⟩
  | .hbm, ⟨17, _⟩ => ⟨S64x500000, .f32⟩
  | .hbm, ⟨18, _⟩ => ⟨S64x500000, .f32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S_, .i32⟩
  | .hbm, ⟨24, _⟩ => ⟨S64x1, .i32⟩
  | .hbm, ⟨25, _⟩ => ⟨S64x1, .i1⟩
  | .hbm, ⟨26, _⟩ => ⟨S_, .i32⟩
  | .hbm, ⟨27, _⟩ => ⟨S64x1, .i32⟩
  | .hbm, ⟨28, _⟩ => ⟨S64x1, .i32⟩
  | .hbm, ⟨29, _⟩ => ⟨S64x1, .i32⟩
  | .hbm, ⟨30, _⟩ => ⟨S64x1x1, .i32⟩
  | .hbm, ⟨31, _⟩ => ⟨S1, .i32⟩
  | .hbm, ⟨32, _⟩ => ⟨S_, .i32⟩
  | .hbm, ⟨33, _⟩ => ⟨S64x1x1, .i32⟩
  | .hbm, ⟨34, _⟩ => ⟨S64x1x1, .i1⟩
  | .hbm, ⟨35, _⟩ => ⟨S1x1x1, .i32⟩
  | .hbm, ⟨36, _⟩ => ⟨S64x1x1, .i32⟩
  | .hbm, ⟨37, _⟩ => ⟨S64x1x1, .i1⟩
  | .hbm, ⟨38, _⟩ => ⟨S64x1x1, .i1⟩
  | .hbm, ⟨39, _⟩ => ⟨S_, .i1⟩
  | .hbm, ⟨40, _⟩ => ⟨S64x1, .i1⟩
  | .hbm, ⟨41, _⟩ => ⟨S64x1, .f32⟩
  | .hbm, ⟨42, _⟩ => ⟨S_, .f32⟩
  | .hbm, ⟨43, _⟩ => ⟨S64x1, .f32⟩
  | .hbm, ⟨44, _⟩ => ⟨S64x1, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64x1, .f32⟩
  | .hbm, ⟨49, _⟩ => ⟨S64x1, .f32⟩
  | .hbm, ⟨50, _⟩ => ⟨S_, .f32⟩
  | .hbm, ⟨51, _⟩ => ⟨S64x1, .f32⟩
  | .hbm, ⟨52, _⟩ => ⟨S64x1, .i1⟩
  | .hbm, ⟨53, _⟩ => ⟨S_, .f32⟩
  | .hbm, ⟨54, _⟩ => ⟨S_, .f32⟩
  | .hbm, ⟨55, _⟩ => ⟨S64x1, .f32⟩
  | .hbm, ⟨56, _⟩ => ⟨S64x1, .f32⟩
  | .hbm, ⟨57, _⟩ => ⟨S64x500000, .f32⟩
  | .hbm, ⟨58, _⟩ => ⟨S64x500000, .f32⟩
  | .hbm, ⟨59, _⟩ => ⟨S64x500000, .f32⟩
  | .hbm, ⟨60, _⟩ => ⟨S_, .f32⟩
  | .hbm, ⟨61, _⟩ => ⟨S64, .f32⟩
  | .hbm, ⟨62, _⟩ => ⟨S64x1, .f32⟩
  | .hbm, ⟨63, _⟩ => ⟨S64x1, .f32⟩
  | .hbm, ⟨64, _⟩ => ⟨S64x1, .f32⟩
  | .hbm, ⟨65, _⟩ => ⟨S64, .f32⟩
  | .hbm, ⟨66, _⟩ => ⟨S64, .f32⟩
  | .hbm, ⟨67, _⟩ => ⟨S2, .i32⟩
  | .hbm, ⟨68, _⟩ => ⟨S64x1, .i32⟩
  | .hbm, ⟨69, _⟩ => ⟨S1x2, .i32⟩
  | .hbm, ⟨70, _⟩ => ⟨S64x2, .i32⟩
  | .hbm, ⟨71, _⟩ => ⟨S64x2, .i32⟩
  | .hbm, ⟨72, _⟩ => ⟨S64x2, .i1⟩
  | .hbm, ⟨73, _⟩ => ⟨S_, .i1⟩
  | .hbm, ⟨74, _⟩ => ⟨S64, .i1⟩
  | .hbm, ⟨75, _⟩ => ⟨S_, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_2 : Ref sig .tc := ⟨.hbm, 50, rfl⟩
abbrev main_v17 : Ref sig .tc := ⟨.hbm, 51, rfl⟩
abbrev main_v18 : Ref sig .tc := ⟨.hbm, 52, rfl⟩
abbrev main_cst_3 : Ref sig .tc := ⟨.hbm, 53, rfl⟩
abbrev main_call2_v0 : Ref sig .tc := ⟨.hbm, 54, rfl⟩
abbrev main_call2_v1 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_4 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_5 : Ref sig .tc := ⟨.hbm, 73, rfl⟩
abbrev main_v35 : Ref sig .tc := ⟨.hbm, 74, rfl⟩
abbrev main_cst_6 : Ref sig .tc := ⟨.hbm, 75, rfl⟩
abbrev main_cst_7 : Ref sig .tc := ⟨.hbm, 76, rfl⟩
abbrev main_call3_v0 : Ref sig .tc := ⟨.hbm, 77, rfl⟩
abbrev main_call3_v1 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_8 : Ref sig .tc := ⟨.hbm, 82, rfl⟩
abbrev main_v39 : Ref sig .tc := ⟨.hbm, 83, rfl⟩
abbrev main_cst_9 : Ref sig .tc := ⟨.hbm, 84, rfl⟩
abbrev main_v40 : Ref sig .tc := ⟨.hbm, 85, rfl⟩

abbrev nD : Nat := 1
abbrev τ : Topo := Topo.v7x

variable {F : FTy → Type} [FloatOps F]
-- ==== Proof.CaseValues.lean ====
/- What one grid point of the kernel leaves behind, as plain functions of what it finds.

   A point reads the features `x0`, the labels `x1`, one block of the bank from each of its two streams (`x2`, `x3`)
   and two columns it carries between points: `s`, the sums of powers of two so far, and `p`, the positive similarities
   so far.  `stepS` and `stepP` are the columns it leaves; `lossOut` is the one number the last point stores.
   The theorems state that the contents of the three buffers, point by point, are these functions iterated. -/
module

public import proofs.«01_k».proof.Proof.Gen.KernelIdeal.Frame
public import Idealize.ShloMosaic.Lib.Pipeline.Value
public import Idealize.ShloMosaic.Lib.Tactic

@[expose] public section

noncomputable section

namespace Cert.KernelIdeal.Steps

open Cert.KernelIdeal Cert.KernelIdeal.Gen Idealize.ShloMosaic Idealize.ShloMosaic.TcCoe Idealize.SL.Sem

variable {F : FTy → Type} [FloatOps F] [Named F]

/-- The offsets of every access of the kernel: the origin. -/
theorem origin : (![0, 0] : Fin 2 → Nat) = fun _ => 0 := funext fun a => by fin_cases a <;> rfl

/-- The sign of a word, as the kernel computes it: one if positive, minus one if negative, zero if zero. -/
abbrev sgn (a : BitVec 32) : BitVec 32 :=
  Scalar.subi (Scalar.extui (Scalar.cmpi .sgt a 0#32)) (Scalar.extui (Scalar.cmpi .slt a 0#32))

/-- The sums column after a point that found `s`. -/
def stepS (x0 : Vec F S64x128 .f32) (x2 x3 : Vec F S10000x128 .f32) (s : Vec F S64x1 .f32) : Vec F S64x1 .f32 :=
  k0_pay11 (k0_pay10 (k0_pay4 x0) (k0_pay7 x0 s x2) x3)

/-- The positives column after point number `a` found `p`: the first stream's block is number `a`, the second's `a + 25`. -/
def stepP (a : BitVec 32) (x0 : Vec F S64x128 .f32) (x1 : Vec F S64x1 .i32) (x2 x3 : Vec F S10000x128 .f32)
    (p : Vec F S64x1 .f32) : Vec F S64x1 .f32 :=
  k0_pay12 (k0_pay5 (F := F) x1)
    (k0_pay8 p (k0_pay5 (F := F) x1) (Scalar.addi a 0#32) (k0_pay6 x0 x2) 10#32
      (Scalar.divsi (Scalar.addi a 0#32) 10#32) (sgn (Scalar.addi a 0#32)) 0#32)
    (Scalar.addi a 25#32) (k0_pay9 (k0_pay4 x0) x3) 10#32 (Scalar.divsi (Scalar.addi a 25#32) 10#32) 0#32

/-- The number the last point stores, from the two finished columns and the labels. -/
def lossOut (x1 : Vec F S64x1 .i32) (s p : Vec F S64x1 .f32) : Vec F S1x1 .f32 :=
  k0_pay1 (k0_pay5 (F := F) x1) s p

variable (c : Dev nD) (i : grid0.Coords)
  (a1 : Memref sig .tc .vmem S64x128 .f32) (h1 : a1.IsWhole) (a2 : Memref sig .tc .vmem S64x1 .i32) (h2 : a2.IsWhole)
  (a3 : Memref sig .tc .vmem S10000x128 .f32) (h3 : a3.IsWhole) (a4 : Memref sig .tc .vmem S10000x128 .f32) (h4 : a4.IsWhole)
  (a5 : Memref sig .tc .vmem S1x1 .f32) (h5 : a5.IsWhole) (a6 : Memref sig .tc .vmem S64x1 .f32) (h6 : a6.IsWhole)
  (a7 : Memref sig .tc .vmem S64x1 .f32) (h7 : a7.IsWhole)
  (x0 : Vec F S64x128 .f32) (x1 : Vec F S64x1 .i32) (x2 x3 : Vec F S10000x128 .f32) (s p : Vec F S64x1 .f32)

/-- The first point leaves the sums step of the zero column. -/
theorem sum_first (hc0 : cond0_0 i) (hc1 : ¬cond0_1 i) :
    sout0_A_0 c i a1 h1 a2 h2 a3 h3 a4 h4 a5 h5 a6 h6 a7 h7 hc0 hc1 x0 x1 x2 x3 = stepS x0 x2 x3 k0_pay2 := by
  unfold sout0_A_0
  rw [View.read_writes_eq_canon _ _ _ (scover0_A_0 c i a1 h1 a2 h2 a3 h3 a4 h4 a5 h5 a6 h6 a7 h7 hc0 hc1 x0 x1 x2 x3)]
  unfold kernelRun0_A
  dsimp only
  sl_unfold_words
  rw [View.canon_cons_unit_zero (S := S64x1) origin]
  simp only [View.readCov_unit_zero (S := S64x1) _ origin, View.readAt_eq_ld, h1.read_unread, h2.read_unread, h3.read_unread,
    h4.read_unread, View.ld_unit_zero (S := S64x128) origin, View.ld_unit_zero (S := S64x1) origin,
    View.ld_unit_zero (S := S10000x128) origin]
  rfl

/-- The first point leaves the positives step of the zero column. -/
theorem pos_first (hc0 : cond0_0 i) (hc1 : ¬cond0_1 i) :
    sout0_A_1 c i a1 h1 a2 h2 a3 h3 a4 h4 a5 h5 a6 h6 a7 h7 hc0 hc1 x0 x1 x2 x3
      = stepP (BitVec.ofNat 32 (i 0).val) x0 x1 x2 x3 k0_pay3 := by
  unfold sout0_A_1
  rw [View.read_writes_eq_canon _ _ _ (scover0_A_1 c i a1 h1 a2 h2 a3 h3 a4 h4 a5 h5 a6 h6 a7 h7 hc0 hc1 x0 x1 x2 x3)]
  unfold kernelRun0_A
  dsimp only
  sl_unfold_words
  rw [View.canon_cons_unit_zero (S := S64x1) origin]
  simp only [View.readCov_unit_zero (S := S64x1) _ origin, View.readAt_eq_ld, h1.read_unread, h2.read_unread, h3.read_unread,
    h4.read_unread, View.ld_unit_zero (S := S64x128) origin, View.ld_unit_zero (S := S64x1) origin,
    View.ld_unit_zero (S := S10000x128) origin]
  rfl

/-- A middle point leaves the sums step of what it found. -/
theorem sum_middle (hc0 : ¬cond0_0 i) (hc1 : ¬cond0_1 i) :
    sout0_B_0 c i a1 h1 a2 h2 a3 h3 a4 h4 a5 h5 a6 h6 a7 h7 hc0 hc1 x0 x1 x2 x3 s p = stepS x0 x2 x3 s := by
  unfold sout0_B_0
  rw [View.read_writes_eq_canon _ _ _ (scover0_B_0 c i a1 h1 a2 h2 a3 h3 a4 h4 a5 h5 a6 h6 a7 h7 hc0 hc1 x0 x1 x2 x3 s p)]
  unfold kernelRun0_B
  dsimp only
  sl_unfold_words
  rw [View.canon_unit_zero (S := S64x1) origin]
  simp only [View.readAt_eq_ld, h1.read_unread, h2.read_unread, h3.read_unread, h4.read_unread, h6.read_unread, h7.read_unread,
    View.ld_unit_zero (S := S64x128) origin, View.ld_unit_zero (S := S64x1) origin, View.ld_unit_zero (S := S10000x128) origin]
  rfl

/-- A middle point leaves the positives step of what it found. -/
theorem pos_middle (hc0 : ¬cond0_0 i) (hc1 : ¬cond0_1 i) :
    sout0_B_1 c i a1 h1 a2 h2 a3 h3 a4 h4 a5 h5 a6 h6 a7 h7 hc0 hc1 x0 x1 x2 x3 s p
      = stepP (BitVec.ofNat 32 (i 0).val) x0 x1 x2 x3 p := by
  unfold sout0_B_1
  rw [View.read_writes_eq_canon _ _ _ (scover0_B_1 c i a1 h1 a2 h2 a3 h3 a4 h4 a5 h5 a6 h6 a7 h7 hc0 hc1 x0 x1 x2 x3 s p)]
  unfold kernelRun0_B
  dsimp only
  sl_unfold_words
  rw [View.canon_unit_zero (S := S64x1) origin]
  simp only [View.readAt_eq_ld, h1.read_unread, h2.read_unread, h3.read_unread, h4.read_unread, h6.read_unread, h7.read_unread,
    View.ld_unit_zero (S := S64x128) origin, View.ld_unit_zero (S := S64x1) origin, View.ld_unit_zero (S := S10000x128) origin]
  rfl

/-- The last point stores the loss of the two columns it has just finished. -/
theorem loss_last (hc0 : ¬cond0_0 i) (hc1 : cond0_1 i) :
    out0_C_4 c i a1 h1 a2 h2 a3 h3 a4 h4 a5 h5 a6 h6 a7 h7 hc0 hc1 x0 x1 x2 x3 s p
      = lossOut x1 (stepS x0 x2 x3 s) (stepP (BitVec.ofNat 32 (i 0).val) x0 x1 x2 x3 p) := by
  unfold out0_C_4
  rw [View.read_writes_eq_canon _ _ _ (cover0_C_4 c i a1 h1 a2 h2 a3 h3 a4 h4 a5 h5 a6 h6 a7 h7 hc0 hc1 x0 x1 x2 x3 s p)]
  unfold kernelRun0_C
  dsimp only
  sl_unfold_words
  rw [View.canon_unit_zero (S := S1x1) origin]
  simp only [View.readCov_unit_zero (S := S64x1) _ origin, View.readAt_eq_ld, h1.read_unread, h2.read_unread, h3.read_unread,
    h4.read_unread, h6.read_unread, h7.read_unread,
    View.ld_unit_zero (S := S64x128) origin, View.ld_unit_zero (S := S64x1) origin, View.ld_unit_zero (S := S10000x128) origin]
  rfl

variable (m : (ℓ : Loc nD τ sig) → Buf (Elt F) ℓ)

/-- The sums column after point `n`: the step iterated from the zero column over the blocks of points `0 … n`. -/
def sums : (n : ℕ) → n < cfg0.N → Vec F S64x1 .f32
  | 0, h => stepS (iblk m c 0 ⟨0, h⟩) (iblk m c 2 ⟨0, h⟩) (iblk m c 3 ⟨0, h⟩) k0_pay2
  | n + 1, h => stepS (iblk m c 0 ⟨n + 1, h⟩) (iblk m c 2 ⟨n + 1, h⟩) (iblk m c 3 ⟨n + 1, h⟩) (sums n (Nat.lt_of_succ_lt h))

/-- The positives column after point `n`, likewise. -/
def poss : (n : ℕ) → n < cfg0.N → Vec F S64x1 .f32
  | 0, h => stepP (BitVec.ofNat 32 (grid0.coords ⟨0, h⟩ 0).val) (iblk m c 0 ⟨0, h⟩) (iblk m c 1 ⟨0, h⟩) (iblk m c 2 ⟨0, h⟩) (iblk m c 3 ⟨0, h⟩) k0_pay3
  | n + 1, h => stepP (BitVec.ofNat 32 (grid0.coords ⟨n + 1, h⟩ 0).val) (iblk m c 0 ⟨n + 1, h⟩) (iblk m c 1 ⟨n + 1, h⟩) (iblk m c 2 ⟨n + 1, h⟩)
      (iblk m c 3 ⟨n + 1, h⟩) (poss n (Nat.lt_of_succ_lt h))

/-- Before the last point, the two carried buffers hold the iterated steps. -/
theorem carried : ∀ (n : ℕ) (h : n < cfg0.N), n < 24 → (outsAt0 m c n h).2 = (sums c m n h, poss c m n h)
  | 0, h, _ => by
    rw [outsAt0_A m c ⟨0, h⟩ rfl (by dsimp only; omega), sum_first, pos_first]; rfl
  | n + 1, h, hn => by
    have e := carried n (Nat.lt_of_succ_lt h) (by omega)
    rw [outsAt0_B m c ⟨n + 1, h⟩ (by dsimp only; omega) (by dsimp only; omega), sum_middle, pos_middle]
    show (stepS _ _ _ (outsAt0 m c n _).2.1, stepP _ _ _ _ _ (outsAt0 m c n _).2.2) = _
    rw [e]; rfl

/-- After the last point the output's buffer holds the loss of the finished columns. -/
theorem loss_stored (h : 24 < cfg0.N) :
    (outsAt0 m c 24 h).1 = lossOut (iblk m c 1 ⟨24, h⟩) (sums c m 24 h) (poss c m 24 h) := by
  have e := carried c m 23 (Nat.lt_of_succ_lt h) (by omega)
  rw [outsAt0_C m c ⟨24, h⟩ (by dsimp only; omega) (by dsimp only), loss_last]
  show lossOut _ (stepS _ _ _ (outsAt0 m c 23 _).2.1) (stepP _ _ _ _ _ (outsAt0 m c 23 _).2.2) = _
  rw [e]; rfl

end Cert.KernelIdeal.Steps

end
-- ==== Proof.Blocks.lean ====
/- What a grid point reads, as entries of the arguments: the features and the labels whole, the bank's block of ten
   thousand rows numbered by the point, and the block twenty-five further on. -/
module

public import proofs.«01_k».proof.Proof.CaseValues
public import Idealize.ShloMosaic.Lib.Pointwise
public import Idealize.ShloMosaic.Lib.StableHlo.ReadAt

@[expose] public section

set_option maxRecDepth 16384

noncomputable section

namespace Cert.KernelIdeal.Steps

open Cert.KernelIdeal Cert.KernelIdeal.Gen Idealize.ShloMosaic Idealize.ShloMosaic.TcCoe Idealize.SL.Sem

variable (m : (ℓ : Loc nD τ sig) → Buf (Elt Ideal) ℓ) (c : Dev nD)

/-- Where each window's block lies: the first two at the origin, the bank's at the point's number and twenty-five on. -/
theorem index_0 : ∀ t : Fin cfg0.N, win0_0.index t 0 = 0 ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = t.val + 25 ∧ win0_3.index t 1 = 0 := by decide +kernel

/-- The labels as the kernel finds them: the argument as one column. -/
theorem labels_column (b : Fin 64) :
    (V m c main_call0_v0 : Vec Ideal S64x1 .i32) (ix2 b 0) = (m (c.tc.loc main_arg1) : Vec Ideal S64 .i32) (ix1 b) := by
  unfold V V0
  after_reads_at

/-- The feature block of every point is the features. -/
theorem features_block (t : Fin cfg0.N) (b : Fin 64) (d : Fin 128) :
    (iblk m c 0 t : Vec Ideal S64x128 .f32) (ix2 b d) = (m (c.tc.loc main_arg0) : Vec Ideal S64x128 .f32) (ix2 b d) := by
  unfold iblk
  rw [View.read_apply, ← V_main_arg0 m c]
  show V m c main_arg0 _ = V m c main_arg0 _
  congr 1
  funext a
  apply Fin.ext
  match a with
  | ⟨0, _⟩ => show win0_0.index t 0 * 64 + 1 * b.val = b.val; rw [(index_0 t).1]; omega
  | ⟨1, _⟩ => show win0_0.index t 1 * 128 + 1 * d.val = d.val; rw [(index_0 t).2]; omega

/-- The label block of every point is the labels. -/
theorem labels_block (t : Fin cfg0.N) (b : Fin 64) :
    (iblk m c 1 t : Vec Ideal S64x1 .i32) (ix2 b 0) = (m (c.tc.loc main_arg1) : Vec Ideal S64 .i32) (ix1 b) := by
  rw [← labels_column m c]
  unfold iblk
  rw [View.read_apply]
  show V m c main_call0_v0 _ = V m c main_call0_v0 _
  congr 1
  funext a
  apply Fin.ext
  match a with
  | ⟨0, _⟩ => show win0_1.index t 0 * 64 + 1 * b.val = b.val; rw [(index_1 t).1]; omega
  | ⟨1, _⟩ => show win0_1.index t 1 * 1 + 1 * 0 = 0; rw [(index_1 t).2]

/-- Row `n` of the bank, for any natural number (wrapped past the last row). -/
def bankRow (n : ℕ) (d : Fin 128) : EReal :=
  (m (c.tc.loc main_arg2) : Vec Ideal S500000x128 .f32) (ix2 (Fin.ofNat 500000 n) d)

/-- The first stream's block at point `t`: rows from `10000 t`. -/
theorem bank_block (t : Fin cfg0.N) (r : Fin 10000) (d : Fin 128) :
    (iblk m c 2 t : Vec Ideal S10000x128 .f32) (ix2 r d) = bankRow m c (t.val * 10000 + r.val) d := by
  have ht : t.val < 25 := by have h := t.isLt; have hN : cfg0.N = 25 := N_0; omega
  unfold iblk bankRow
  rw [View.read_apply, ← V_main_arg2 m c]
  show V m c main_arg2 _ = V m c main_arg2 _
  congr 1
  funext a
  apply Fin.ext
  match a with
  | ⟨0, _⟩ =>
    show win0_2.index t 0 * 10000 + 1 * r.val = (t.val * 10000 + r.val) % 500000
    rw [(index_2 t).1, Nat.mod_eq_of_lt (by omega)]; omega
  | ⟨1, _⟩ => show win0_2.index t 1 * 128 + 1 * d.val = d.val; rw [(index_2 t).2]; omega

/-- The second stream's block at point `t`: rows from `10000 (t + 25)`. -/
theorem bank_block' (t : Fin cfg0.N) (r : Fin 10000) (d : Fin 128) :
    (iblk m c 3 t : Vec Ideal S10000x128 .f32) (ix2 r d) = bankRow m c ((t.val + 25) * 10000 + r.val) d := by
  have ht : t.val < 25 := by have h := t.isLt; have hN : cfg0.N = 25 := N_0; omega
  unfold iblk bankRow
  rw [View.read_apply, ← V_main_arg2 m c]
  show V m c main_arg2 _ = V m c main_arg2 _
  congr 1
  funext a
  apply Fin.ext
  match a with
  | ⟨0, _⟩ =>
    show win0_3.index t 0 * 10000 + 1 * r.val = ((t.val + 25) * 10000 + r.val) % 500000
    rw [(index_3 t).1, Nat.mod_eq_of_lt (by omega)]; omega
  | ⟨1, _⟩ => show win0_3.index t 1 * 128 + 1 * d.val = d.val; rw [(index_3 t).2]; omega

end Cert.KernelIdeal.Steps
-- ==== Proof.Algebra.lean ====
/- The mathematics of the loss on the extended reals, with no program in sight.

   The kernel works in base two with a fixed shift: with `x` a similarity divided by the temperature, it computes
   `y = x / ln 2`, sums `2^(y - 40)`, and undoes both at the end.  The reference works in base e and shifts by the row's
   largest similarity where that is finite.  Each lemma holds at every extended real, infinite ones included, because the
   factors taken out are positive real numbers. -/
module

public import Idealize.ShloMosaic.PureOps.Ideal.Laws
public import Mathlib.Analysis.SpecialFunctions.Pow.Real

@[expose] public section

noncomputable section

namespace Cert.Math

open Idealize.ShloMosaic
open scoped BigOperators

/-! ## The ideal functions at the two infinities and at a real number -/

theorem exp_bot : Ideal.exp ⊥ = 0 := rfl
theorem exp_top : Ideal.exp ⊤ = ⊤ := rfl
theorem exp_coe (r : ℝ) : Ideal.exp (r : EReal) = (Real.exp r : EReal) := rfl
theorem exp2_bot : Ideal.exp2 ⊥ = 0 := rfl
theorem exp2_top : Ideal.exp2 ⊤ = ⊤ := rfl
theorem exp2_coe (r : ℝ) : Ideal.exp2 (r : EReal) = (Real.rpow 2 r : EReal) := rfl
theorem log_top : Ideal.log ⊤ = ⊤ := rfl
theorem log_coe (r : ℝ) : Ideal.log (r : EReal) = if r ≤ 0 then ⊥ else (Real.log r : EReal) := rfl
theorem sqrt_top : Ideal.sqrt ⊤ = ⊤ := rfl
theorem sqrt_coe (r : ℝ) : Ideal.sqrt (r : EReal) = if r < 0 then ⊥ else (Real.sqrt r : EReal) := rfl
theorem rsqrt_top : Ideal.rsqrt ⊤ = 0 := rfl
theorem rsqrt_coe (r : ℝ) :
    Ideal.rsqrt (r : EReal) = if r < 0 then ⊥ else if r = 0 then ⊤ else (((Real.sqrt r)⁻¹ : ℝ) : EReal) := rfl

/-- The larger of two reals is the same real among the extended reals. -/
theorem coe_max (a b : ℝ) : ((max a b : ℝ) : EReal) = max (a : EReal) (b : EReal) := EReal.coe_strictMono.monotone.map_max

/-! ## Sums of a multiple, and how a sum is split in blocks -/

/-- A positive (or zero) real factor comes out of a finite sum of extended reals. -/
theorem mul_sum_real {ι : Type} (S : Finset ι) (c : ℝ) (hc : 0 ≤ c) (g : ι → EReal) :
    ∑ k ∈ S, (c : EReal) * g k = (c : EReal) * ∑ k ∈ S, g k := by
  classical
  induction S using Finset.induction_on with
  | empty => simp
  | insert a S ha ih =>
    rw [Finset.sum_insert ha, Finset.sum_insert ha, ih,
      EReal.left_distrib_of_nonneg_of_ne_top (by exact_mod_cast hc) (EReal.coe_ne_top c)]

/-- A sum over `a * b` numbers, taken `b` at a time. -/
theorem sum_blocks (a b : ℕ) (E : ℕ → EReal) :
    ∑ k ∈ Finset.range a, ∑ r ∈ Finset.range b, E (k * b + r) = ∑ n ∈ Finset.range (a * b), E n := by
  induction a with
  | zero => simp
  | succ a ih => rw [Finset.sum_range_succ, ih, Nat.succ_mul, Finset.sum_range_add]

/-- An accumulator that starts at zero and at step `n` of `N + 1` adds `q n` and then `q (n + N + 1)` ends at the sum of
    the first `2 (N + 1)` values of `q`. -/
theorem two_streams (N : ℕ) (q : ℕ → EReal) (u : (n : ℕ) → n < N + 1 → EReal)
    (h0 : ∀ h, u 0 h = 0 + q 0 + q (0 + (N + 1)))
    (hs : ∀ n h, u (n + 1) h = u n (Nat.lt_of_succ_lt h) + q (n + 1) + q (n + 1 + (N + 1))) (h : N < N + 1) :
    u N h = ∑ k ∈ Finset.range ((N + 1) + (N + 1)), q k := by
  have key : ∀ n h, u n h = ∑ k ∈ Finset.range (n + 1), q k + ∑ k ∈ Finset.range (n + 1), q (k + (N + 1)) := by
    intro n
    induction n with
    | zero => intro h; rw [h0]; simp
    | succ n ih =>
      intro h
      rw [hs, ih, Finset.sum_range_succ q (n + 1), Finset.sum_range_succ (fun k => q (k + (N + 1))) (n + 1)]
      abel
  rw [key, Finset.sum_range_add q (N + 1) (N + 1)]
  exact congrArg _ (Finset.sum_congr rfl fun k _ => by rw [Nat.add_comm])

/-! ## Normalising a row -/

/-- A sum of squares is not negative. -/
theorem sum_sq_nonneg {ι : Type} (S : Finset ι) (f : ι → EReal) : 0 ≤ ∑ d ∈ S, f d * f d :=
  Finset.sum_nonneg fun d _ => by
    rcases le_total 0 (f d) with h | h
    · exact mul_nonneg h h
    · rw [← neg_mul_neg]
      exact mul_nonneg (EReal.neg_nonneg.mpr h) (EReal.neg_nonneg.mpr h)

/-- The reciprocal root of a sum of squares held above the square of `e` is the reciprocal of its root held above `e`. -/
theorem rsqrt_max (e : ℝ) (he : 0 < e) (x : EReal) (hx : 0 ≤ x) :
    Ideal.rsqrt (max x ((e * e : ℝ) : EReal)) = (max (Ideal.sqrt x) (e : EReal))⁻¹ := by
  induction x using EReal.rec with
  | bot => exact absurd hx (by simp)
  | top => rw [max_eq_left le_top, sqrt_top, max_eq_left le_top, rsqrt_top, EReal.inv_top]
  | coe r =>
    have hr : 0 ≤ r := by exact_mod_cast hx
    have hm : 0 < max r (e * e) := lt_max_of_lt_right (mul_pos he he)
    have hsq : Real.sqrt (max r (e * e)) = max (Real.sqrt r) e := by
      have mono : Monotone Real.sqrt := fun _ _ h => Real.sqrt_le_sqrt h
      rw [mono.map_max, Real.sqrt_mul_self he.le]
    rw [← coe_max, rsqrt_coe, sqrt_coe, if_neg (not_lt.mpr hm.le), if_neg hm.ne', if_neg (not_lt.mpr hr), ← coe_max,
      ← EReal.coe_inv, hsq]

/-- A root held above a positive real is not zero. -/
theorem max_root_ne_zero (e : ℝ) (he : 0 < e) (y : EReal) : max y (e : EReal) ≠ 0 :=
  (lt_of_lt_of_le (by exact_mod_cast he : (0 : EReal) < e) (le_max_right _ _)).ne'

/-! ## One similarity: the kernel's is the reference's over `ln 2` -/

/-- The kernel multiplies the row by the reciprocal norm times `1 / (t ln 2)` before the dot product; the reference
    divides by the norm before it and by `t` after it.  So the kernel's number is the reference's times `1 / ln 2`. -/
theorem similarity {n : ℕ} (e t l : ℝ) (he : 0 < e) (ht : 0 < t) (hl : 0 < l) (f b : Fin n → EReal) :
    ∑ d, (f d * (Ideal.rsqrt (max (∑ d, f d * f d) ((e * e : ℝ) : EReal)) * (((t * l)⁻¹ : ℝ) : EReal))) * b d
      = ((l⁻¹ : ℝ) : EReal)
        * Ideal.div (∑ d, Ideal.div (f d) (max (Ideal.sqrt (∑ d, f d * f d)) (e : EReal)) * b d) (t : EReal) := by
  rw [rsqrt_max e he _ (sum_sq_nonneg _ f)]
  have ht' : (t : EReal) ≠ 0 := by exact_mod_cast ht.ne'
  generalize hN : max (Ideal.sqrt (∑ d, f d * f d)) (e : EReal) = N
  have hN0 : N ≠ 0 := hN ▸ max_root_ne_zero e he _
  simp only [Ideal.div, if_neg hN0, if_neg ht']
  rw [Finset.sum_congr rfl fun d _ =>
    show (f d * (N⁻¹ * (((t * l)⁻¹ : ℝ) : EReal))) * b d = (((t * l)⁻¹ : ℝ) : EReal) * (f d * N⁻¹ * b d) by
      rw [← mul_assoc, mul_comm (f d * N⁻¹), mul_assoc],
    mul_sum_real _ _ (inv_nonneg.mpr (mul_pos ht hl).le), mul_inv, mul_comm t⁻¹, EReal.coe_mul, EReal.coe_inv t, mul_assoc,
    mul_comm (t : EReal)⁻¹]

/-- `2 ^ (y - 40)` with `y = x / ln 2` is `e ^ x` times the fixed factor `2 ^ (-40)`. -/
theorem exp2_shift (x : EReal) :
    Ideal.exp2 (((Real.log 2)⁻¹ : ℝ) * x - ((40 : ℝ) : EReal)) = ((Real.exp (-(40 * Real.log 2)) : ℝ) : EReal) * Ideal.exp x := by
  have hl : 0 < Real.log 2 := Real.log_pos (by norm_num)
  have hi : 0 < (Real.log 2)⁻¹ := inv_pos.mpr hl
  induction x using EReal.rec with
  | bot => rw [EReal.coe_mul_bot_of_pos hi]; rw [EReal.bot_sub, exp2_bot, exp_bot, mul_zero]
  | top =>
    rw [EReal.coe_mul_top_of_pos hi, EReal.top_sub_coe, exp2_top, exp_top, EReal.coe_mul_top_of_pos (Real.exp_pos _)]
  | coe r =>
    rw [← EReal.coe_mul, ← EReal.coe_sub, exp2_coe, exp_coe, ← EReal.coe_mul, ← Real.exp_add]
    congr 1
    rw [show Real.rpow 2 ((Real.log 2)⁻¹ * r - 40) = (2 : ℝ) ^ ((Real.log 2)⁻¹ * r - 40) from rfl, Real.rpow_def_of_pos (by norm_num)]
    congr 1
    field_simp
    ring

/-- Multiplying by `ln 2` undoes the division. -/
theorem ln2_undo (x : EReal) : ((Real.log 2 : ℝ) : EReal) * ((((Real.log 2)⁻¹ : ℝ) : EReal) * x) = x := by
  have hl : Real.log 2 ≠ 0 := (Real.log_pos (by norm_num)).ne'
  rw [← mul_assoc, ← EReal.coe_mul, mul_inv_cancel₀ hl, EReal.coe_one, one_mul]

/-! ## The logarithm of a sum of exponentials -/

/-- The ideal exponential is not negative. -/
theorem exp_nonneg (x : EReal) : 0 ≤ Ideal.exp x := by
  induction x using EReal.rec with
  | bot => exact le_rfl
  | top => exact le_top
  | coe r => rw [exp_coe]; exact_mod_cast (Real.exp_pos r).le

/-- Adding `g` to the logarithm of `e ^ (-g)` times a number that is not negative gives that number's logarithm. -/
theorem log_scaled (g : ℝ) (S : EReal) (hS : 0 ≤ S) :
    Ideal.log ((Real.exp (-g) : ℝ) * S) + (g : EReal) = Ideal.log S := by
  induction S using EReal.rec with
  | bot => exact absurd hS (by simp)
  | top => rw [EReal.coe_mul_top_of_pos (Real.exp_pos _)]; exact EReal.top_add_coe g
  | coe r =>
    have hr : 0 ≤ r := by exact_mod_cast hS
    rw [← EReal.coe_mul, log_coe, log_coe]
    rcases hr.eq_or_lt with rfl | h
    · simp
    · rw [if_neg (not_le.mpr (mul_pos (Real.exp_pos _) h)), if_neg (not_le.mpr h), Real.log_mul (Real.exp_pos _).ne' h.ne',
        Real.log_exp, ← EReal.coe_add]
      congr 1
      ring

/-- Shifting the argument of the exponential by a real number scales it. -/
theorem exp_sub_real (g : ℝ) (x : EReal) : Ideal.exp (x - (g : EReal)) = ((Real.exp (-g) : ℝ) : EReal) * Ideal.exp x := by
  induction x using EReal.rec with
  | bot => rw [EReal.bot_sub, exp_bot, mul_zero]
  | top => rw [EReal.top_sub_coe, exp_top, EReal.coe_mul_top_of_pos (Real.exp_pos _)]
  | coe r =>
    rw [← EReal.coe_sub, exp_coe, exp_coe, ← EReal.coe_mul, ← Real.exp_add]
    congr 2
    ring

/-- The reference's shifted form: any real shift leaves the logarithm of the sum of exponentials alone. -/
theorem logsumexp_shift {ι : Type} (S : Finset ι) (g : ℝ) (x : ι → EReal) :
    Ideal.log (∑ k ∈ S, Ideal.exp (x k - (g : EReal))) + (g : EReal) = Ideal.log (∑ k ∈ S, Ideal.exp (x k)) := by
  rw [Finset.sum_congr rfl fun k _ => exp_sub_real g (x k), mul_sum_real _ _ (Real.exp_pos _).le,
    log_scaled g _ (Finset.sum_nonneg fun k _ => exp_nonneg (x k))]

/-- The kernel's form: base two, shifted by forty, and `40 ln 2` added back. -/
theorem logsumexp_base_two {ι : Type} (S : Finset ι) (x : ι → EReal) :
    ((40 * Real.log 2 : ℝ) : EReal)
        + Ideal.log (∑ k ∈ S, Ideal.exp2 (((Real.log 2)⁻¹ : ℝ) * x k - ((40 : ℝ) : EReal)))
      = Ideal.log (∑ k ∈ S, Ideal.exp (x k)) := by
  rw [Finset.sum_congr rfl fun k _ => exp2_shift (x k), mul_sum_real _ _ (Real.exp_pos _).le, add_comm,
    log_scaled (40 * Real.log 2) _ (Finset.sum_nonneg fun k _ => exp_nonneg (x k))]

/-- The guard of the reference's shift: a number kept only where its magnitude is below infinity, zero elsewhere, is
    always a real number. -/
theorem guarded_real (x : EReal) : ∃ g : ℝ, (if max x (-x) < ⊤ then x else 0) = (g : EReal) := by
  induction x using EReal.rec with
  | bot => exact ⟨0, by simp⟩
  | top => exact ⟨0, by simp⟩
  | coe r =>
    exact ⟨r, if_pos (by rw [← EReal.coe_neg, ← coe_max]; exact EReal.coe_lt_top _)⟩

/-- Dividing by sixty-four is multiplying by its reciprocal. -/
theorem div_sixty_four (x : EReal) : Ideal.div x ((64 : ℝ) : EReal) = x * ((1 / 64 : ℝ) : EReal) := by
  have h : ((64 : ℝ) : EReal) ≠ 0 := by exact_mod_cast (by norm_num : (64 : ℝ) ≠ 0)
  rw [Ideal.div, if_neg h, ← EReal.coe_inv, one_div]

end Cert.Math

end
-- ==== Proof.StepValue.lean ====
/- What one grid point computes, read off entry by entry as mathematics on the extended reals.

   `sim x0 b w` is the kernel's scaled similarity of feature row `b` with a bank row `w`, in units of `log 2`. -/
module

public import proofs.«01_k».proof.Proof.CaseValues
public import proofs.«01_k».proof.Proof.Algebra
public import Idealize.ShloMosaic.Lib.Pointwise

@[expose] public section

set_option maxRecDepth 16384

noncomputable section

namespace Cert.KernelIdeal.Steps

open Cert.KernelIdeal Cert.KernelIdeal.Gen Idealize.ShloMosaic Idealize.SL.Sem

/-! ## The constants -/

/-- The floor of a row's length, the real number nearest `1e-12` among the 32-bit floats. -/
abbrev epsR : ℝ := 2305843 / 2305843009213693952
/-- The temperature, the real number nearest `0.3` among the 32-bit floats. -/
abbrev tempR : ℝ := 5033165 / 16777216

/-- The word of the shift is the number forty. -/
theorem word_forty : Ideal.ofBits .f32 0x42200000#32 = ((40 : ℝ) : EReal) := by
  simp [Ideal.ofBits, Ideal.ieee, -EReal.coe_mul]; norm_num

/-- The word of the mean's factor is one sixty-fourth. -/
theorem word_sixty_fourth : Ideal.ofBits .f32 0x3C800000#32 = ((1 / 64 : ℝ) : EReal) := by
  simp [Ideal.ofBits, Ideal.ieee, -EReal.coe_mul]; norm_num

/-- The named squared floor is the floor squared. -/
theorem named_eps_sq : Named.named (F := Ideal) (φ := .f32) κ "eps_sq" 0x179ABE15#32 = ((epsR * epsR : ℝ) : EReal) := by
  refine (IdealRules.named_const.ideal_named_scalar _ _ _ _ rfl).trans ?_
  norm_num

/-- The named scale is one over the temperature times the logarithm of two. -/
theorem named_scale :
    Named.named (F := Ideal) (φ := .f32) κ "log2e_over_t" 0x4099E331#32 = (((tempR * Real.log 2)⁻¹ : ℝ) : EReal) :=
  IdealRules.named_const.ideal_named_scalar _ _ _ _ rfl

/-- The named shift is forty logarithms of two. -/
theorem named_shift : Named.named (F := Ideal) (φ := .f32) κ "shift_ln2" 0x41DDCE9E#32 = ((40 * Real.log 2 : ℝ) : EReal) :=
  IdealRules.named_const.ideal_named_scalar _ _ _ _ rfl

/-- The named logarithm of two. -/
theorem named_ln2 : Named.named (F := Ideal) (φ := .f32) κ "ln2" 0x3F317218#32 = ((Real.log 2 : ℝ) : EReal) :=
  IdealRules.named_const.ideal_named_scalar _ _ _ _ rfl

/-! ## The words: which block of the bank starts a label's rows -/

/-- The floored quotient by ten, as the kernel computes it. -/
abbrev quot10 (y : BitVec 32) : BitVec 32 :=
  Scalar.select
    (Scalar.andi
      (Scalar.cmpi .ne (sgn y)
        (Scalar.subi (Scalar.extui (Scalar.cmpi .sgt 10#32 0#32)) (Scalar.extui (Scalar.cmpi .slt 10#32 0#32))))
      (Scalar.cmpi .ne (Scalar.remsi y 10#32) 0#32))
    (Scalar.subi (Scalar.divsi y 10#32) 1#32) (Scalar.divsi y 10#32)

/-- The divisor ten, guarded against zero as the kernel does. -/
abbrev ten : BitVec 32 := Scalar.select (Scalar.cmpi .eq 10#32 0#32) 1#32 10#32

/-- The floored remainder by ten, as the kernel computes it. -/
abbrev rem10 (y : BitVec 32) : BitVec 32 :=
  Scalar.select
    (Scalar.andi
      (Scalar.xori (Scalar.cmpi .slt (Scalar.remsi y ten) 0#32) (Scalar.cmpi .slt ten 0#32))
      (Scalar.cmpi .ne (Scalar.remsi y ten) 0#32))
    (Scalar.addi (Scalar.remsi y ten) ten) (Scalar.remsi y ten)

/-- On the fifty block numbers the two are the natural quotient and remainder. -/
theorem words_ten : ∀ k : Fin 50, quot10 (BitVec.ofNat 32 k.val) = BitVec.ofNat 32 (k.val / 10)
    ∧ Scalar.cmpi .eq (rem10 (BitVec.ofNat 32 k.val)) 0#32 = BitVec.ofBool (decide (k.val % 10 = 0)) := by
  decide

/-- Adding the streams' offsets to a point's number. -/
theorem words_add : ∀ n : Fin 25, Scalar.addi (BitVec.ofNat 32 n.val) 0#32 = BitVec.ofNat 32 n.val
    ∧ Scalar.addi (BitVec.ofNat 32 n.val) 25#32 = BitVec.ofNat 32 (n.val + 25) := by
  decide

/-- What block `k` adds to the positive similarity of a row with label `l`: the value `v` if the block is the first of
    the label's ten, nothing otherwise. -/
def posTerm (l : BitVec 32) (k : ℕ) (v : EReal) : EReal :=
  if l = BitVec.ofNat 32 (k / 10) ∧ k % 10 = 0 then v else 0

/-- The kernel's selection is that term. -/
theorem select_eq_posTerm (l : BitVec 32) (k : ℕ) (hk : k < 50) (v : EReal) :
    Scalar.select (IntOp.andi (IntOp.cmpi .eq l (quot10 (BitVec.ofNat 32 k)))
      (Scalar.cmpi .eq (rem10 (BitVec.ofNat 32 k)) 0#32)) v 0 = posTerm l k v := by
  rw [(words_ten ⟨k, hk⟩).1, (words_ten ⟨k, hk⟩).2]
  unfold posTerm
  have h1 : IntOp.cmpi .eq l (BitVec.ofNat 32 (k / 10)) = BitVec.ofBool (decide (l = BitVec.ofNat 32 (k / 10))) := by
    unfold IntOp.cmpi
    by_cases h : l = BitVec.ofNat 32 (k / 10)
    · simp [h]
    · rw [decide_eq_false h]
      show BitVec.ofBool (l == BitVec.ofNat 32 (k / 10)) = _
      rw [beq_false_of_ne h]
  rw [h1]
  by_cases h : l = BitVec.ofNat 32 (k / 10) <;> by_cases h2 : k % 10 = 0 <;>
    simp [h, h2, IntOp.andi, Scalar.select]

/-! ## The payloads at an entry -/

/-- The kernel's similarity of feature row `b` with a bank row `w`. -/
def sim (x0 : Vec Ideal S64x128 .f32) (b : Fin 64) (w : Fin 128 → EReal) : EReal :=
  ∑ d : Fin 128, (x0 (ix2 b d) * (Ideal.rsqrt (max (∑ e : Fin 128, x0 (ix2 b e) * x0 (ix2 b e)) ((epsR * epsR : ℝ) : EReal))
    * (((tempR * Real.log 2)⁻¹ : ℝ) : EReal))) * w d

/-- A block's similarities from the first stream. -/
theorem sims_apply (x0 : Vec Ideal S64x128 .f32) (x2 : Vec Ideal S10000x128 .f32) (b : Fin 64) (r : Fin 10000) :
    k0_pay6 x0 x2 (ix2 b r) = sim x0 b (fun d => x2 (ix2 r d)) := by
  pointwise [k0_pay6, k0_pay4, sim, named_eps_sq, named_scale]

/-- A block's similarities from the second stream. -/
theorem sims_apply' (x0 : Vec Ideal S64x128 .f32) (x2 : Vec Ideal S10000x128 .f32) (b : Fin 64) (r : Fin 10000) :
    k0_pay9 (k0_pay4 x0) x2 (ix2 b r) = sim x0 b (fun d => x2 (ix2 r d)) := by
  pointwise [k0_pay9, k0_pay4, sim, named_eps_sq, named_scale]

/-- The sum of the powers of two of one block's shifted similarities. -/
def blockSum (x0 : Vec Ideal S64x128 .f32) (b : Fin 64) (x2 : Vec Ideal S10000x128 .f32) : EReal :=
  ∑ r : Fin 10000, Ideal.exp2 (sim x0 b (fun d => x2 (ix2 r d)) - ((40 : ℝ) : EReal))

/-- A point adds both streams' block sums to the sums column. -/
theorem stepS_apply (x0 : Vec Ideal S64x128 .f32) (x2 x3 : Vec Ideal S10000x128 .f32) (s : Vec Ideal S64x1 .f32)
    (b : Fin 64) :
    stepS x0 x2 x3 s (ix2 b 0) = s (ix2 b 0) + blockSum x0 b x2 + blockSum x0 b x3 := by
  pointwise [stepS, k0_pay11, k0_pay10, k0_pay7, sims_apply, sims_apply', blockSum, word_forty]
  rfl

/-- Point `n` adds to the positives column what its two blocks hold of it. -/
theorem stepP_apply (n : ℕ) (hn : n < 25) (x0 : Vec Ideal S64x128 .f32) (x1 : Vec Ideal S64x1 .i32)
    (x2 x3 : Vec Ideal S10000x128 .f32) (p : Vec Ideal S64x1 .f32) (b : Fin 64) :
    stepP (BitVec.ofNat 32 n) x0 x1 x2 x3 p (ix2 b 0) = p (ix2 b 0)
      + posTerm (x1 (ix2 b 0)) n (sim x0 b (fun d => x2 (ix2 0 d)))
      + posTerm (x1 (ix2 b 0)) (n + 25) (sim x0 b (fun d => x3 (ix2 0 d))) := by
  unfold stepP
  rw [(words_add ⟨n, hn⟩).1, (words_add ⟨n, hn⟩).2]
  rw [← select_eq_posTerm _ n (by omega), ← select_eq_posTerm _ (n + 25) (by omega)]
  pointwise [k0_pay12, k0_pay8, k0_pay5, sims_apply, sims_apply']

/-- The zero columns. -/
theorem zeroS_apply (b : Fin 64) : (k0_pay2 (F := Ideal)) (ix2 b 0) = 0 := by
  pointwise [k0_pay2]

theorem zeroP_apply (b : Fin 64) : (k0_pay3 (F := Ideal)) (ix2 b 0) = 0 := by
  pointwise [k0_pay3]

/-- A row's weight in the kernel: the larger one for the labels up to one. -/
abbrev weightK (l : BitVec 32) : EReal :=
  Scalar.select (IntOp.cmpi .sle l 1#32) (Ideal.ofBits .f32 0x3FA66666#32) 1

/-- The stored number: the weighted mean of the rows' losses. -/
theorem lossOut_apply (x1 : Vec Ideal S64x1 .i32) (s p : Vec Ideal S64x1 .f32) :
    lossOut x1 s p (ix2 0 0) =
      (∑ b : Fin 64, weightK (x1 (ix2 b 0)) *
        (((40 * Real.log 2 : ℝ) : EReal) + Ideal.log (s (ix2 b 0)) - ((Real.log 2 : ℝ) : EReal) * p (ix2 b 0)))
      * ((1 / 64 : ℝ) : EReal) := by
  pointwise [lossOut, k0_pay1, k0_pay5, named_shift, named_ln2, word_sixty_fourth]
  simp only [Finset.univ_unique, Finset.sum_singleton]

end Cert.KernelIdeal.Steps
-- ==== Proof.Columns.lean ====
/- The two finished columns in closed form: after the last point the sums column holds, for each feature row, the sum of
   the powers of two of its shifted similarities over all five hundred thousand bank rows, and the positives column holds
   its similarity with the first bank row of its own label. -/
module

public import proofs.«01_k».proof.Proof.Blocks
public import proofs.«01_k».proof.Proof.StepValue

@[expose] public section

set_option maxRecDepth 16384

noncomputable section

namespace Cert.KernelIdeal.Steps

open Cert.KernelIdeal Cert.KernelIdeal.Gen Idealize.ShloMosaic Idealize.ShloMosaic.TcCoe Idealize.SL.Sem

variable (m : (ℓ : Loc nD τ sig) → Buf (Elt Ideal) ℓ) (c : Dev nD)

/-- The features as launched. -/
abbrev feats : Vec Ideal S64x128 .f32 := m (c.tc.loc main_arg0)
/-- The label of row `b` as launched. -/
abbrev label (b : Fin 64) : BitVec 32 := (m (c.tc.loc main_arg1) : Vec Ideal S64 .i32) (ix1 b)

/-- The similarity of feature row `b` with bank row `n`. -/
abbrev simRow (b : Fin 64) (n : ℕ) : EReal := sim (feats m c) b (bankRow m c n)

/-- A point's number is its coordinate. -/
theorem coord_eq : ∀ t : Fin cfg0.N, (grid0.coords t 0).val = t.val := by decide +kernel

/-- The similarity reads the feature block, which is the features. -/
theorem sim_block (t : Fin cfg0.N) (b : Fin 64) (w : Fin 128 → EReal) : sim (iblk m c 0 t) b w = sim (feats m c) b w := by
  unfold sim
  simp only [features_block m c t]

/-- Block `k`'s sum over its ten thousand rows. -/
def sumOf (b : Fin 64) (k : ℕ) : EReal :=
  ∑ r ∈ Finset.range 10000, Ideal.exp2 (simRow m c b (k * 10000 + r) - ((40 : ℝ) : EReal))

theorem blockSum_first (t : Fin cfg0.N) (b : Fin 64) : blockSum (iblk m c 0 t) b (iblk m c 2 t) = sumOf m c b t.val := by
  unfold blockSum sumOf
  rw [Finset.sum_range]
  refine Finset.sum_congr rfl fun r _ => ?_
  rw [sim_block, show (fun d => (iblk m c 2 t : Vec Ideal S10000x128 .f32) (ix2 r d)) = _ from
    funext fun d => bank_block m c t r d]

theorem blockSum_second (t : Fin cfg0.N) (b : Fin 64) :
    blockSum (iblk m c 0 t) b (iblk m c 3 t) = sumOf m c b (t.val + 25) := by
  unfold blockSum sumOf
  rw [Finset.sum_range]
  refine Finset.sum_congr rfl fun r _ => ?_
  rw [sim_block, show (fun d => (iblk m c 3 t : Vec Ideal S10000x128 .f32) (ix2 r d)) = _ from
    funext fun d => bank_block' m c t r d]

/-- One point's step of the sums column, over the arguments. -/
theorem sums_step (t : Fin cfg0.N) (s : Vec Ideal S64x1 .f32) (b : Fin 64) :
    stepS (iblk m c 0 t) (iblk m c 2 t) (iblk m c 3 t) s (ix2 b 0)
      = s (ix2 b 0) + sumOf m c b t.val + sumOf m c b (t.val + 25) := by
  rw [stepS_apply, blockSum_first, blockSum_second]

/-- THE SUMS COLUMN, finished. -/
theorem sums_final (h : 24 < cfg0.N) (b : Fin 64) :
    sums c m 24 h (ix2 b 0)
      = ∑ n ∈ Finset.range 500000, Ideal.exp2 (simRow m c b n - ((40 : ℝ) : EReal)) := by
  have e := Cert.Math.two_streams 24 (sumOf m c b) (fun n hn => sums c m n (by have : cfg0.N = 25 := N_0; omega) (ix2 b 0))
    (fun _ => by
      show stepS _ _ _ _ _ = _
      rw [sums_step, zeroS_apply])
    (fun n _ => by
      show stepS _ _ _ _ _ = _
      rw [sums_step]) (by omega)
  refine e.trans ?_
  exact Cert.Math.sum_blocks 50 10000 fun n => Ideal.exp2 (simRow m c b n - ((40 : ℝ) : EReal))

/-- What block `k` holds of row `b`'s positive similarity. -/
def posOf (b : Fin 64) (k : ℕ) : EReal := posTerm (label m c b) k (simRow m c b (k * 10000))

/-- One point's step of the positives column, over the arguments. -/
theorem poss_step (t : Fin cfg0.N) (p : Vec Ideal S64x1 .f32) (b : Fin 64) :
    stepP (BitVec.ofNat 32 (grid0.coords t 0).val) (iblk m c 0 t) (iblk m c 1 t) (iblk m c 2 t) (iblk m c 3 t) p (ix2 b 0)
      = p (ix2 b 0) + posOf m c b t.val + posOf m c b (t.val + 25) := by
  have ht : t.val < 25 := by have h := t.isLt; have hN : cfg0.N = 25 := N_0; omega
  rw [coord_eq, stepP_apply t.val ht, labels_block, sim_block, sim_block,
    show (fun d => (iblk m c 2 t : Vec Ideal S10000x128 .f32) (ix2 0 d)) = _ from funext fun d => bank_block m c t 0 d,
    show (fun d => (iblk m c 3 t : Vec Ideal S10000x128 .f32) (ix2 0 d)) = _ from funext fun d => bank_block' m c t 0 d]
  unfold posOf
  rw [show t.val * 10000 + (0 : Fin 10000).val = t.val * 10000 from Nat.add_zero _,
    show (t.val + 25) * 10000 + (0 : Fin 10000).val = (t.val + 25) * 10000 from Nat.add_zero _]

/-- THE POSITIVES COLUMN, finished: for a label `k` below five, the similarity with bank row `100000 k`. -/
theorem poss_final (h : 24 < cfg0.N) (b : Fin 64) (k : ℕ) (hk : k < 5) (hl : label m c b = BitVec.ofNat 32 k) :
    poss c m 24 h (ix2 b 0) = simRow m c b (k * 100000) := by
  have e := Cert.Math.two_streams 24 (posOf m c b) (fun n hn => poss c m n (by have : cfg0.N = 25 := N_0; omega) (ix2 b 0))
    (fun _ => by
      show stepP _ _ _ _ _ _ _ = _
      rw [poss_step, zeroP_apply])
    (fun n _ => by
      show stepP _ _ _ _ _ _ _ = _
      rw [poss_step]) (by omega)
  refine e.trans ?_
  rw [Finset.sum_eq_single (10 * k)]
  · unfold posOf posTerm
    rw [if_pos ⟨by rw [hl]; congr 1; omega, by omega⟩, show 10 * k * 10000 = k * 100000 by omega]
  · intro n hn hne
    have hn' : n < 50 := Finset.mem_range.mp hn
    unfold posOf posTerm
    rw [if_neg]
    rintro ⟨h1, h2⟩
    rw [hl] at h1
    have h3 := congrArg BitVec.toNat h1
    simp only [BitVec.toNat_ofNat] at h3
    omega
  · intro hn
    exact absurd (Finset.mem_range.mpr (by omega)) hn

end Cert.KernelIdeal.Steps
-- ==== Proof.KernelRun.lean ====
/- The kernel's run, read: its scalar result is the one number the last grid point stored. -/
module

public import proofs.«01_k».proof.Proof.CaseValues
public import Idealize.ShloMosaic.Lib.Pointwise
public import Idealize.ShloMosaic.Lib.StableHlo.ReadAt

@[expose] public section

set_option maxRecDepth 16384

noncomputable section

namespace Cert.KernelIdeal.Steps

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (ρ : Dev nD → PrngReg) (c : Dev nD)

theorem last_lt : 24 < cfg0.N := by have : cfg0.N = 25 := N_0; omega

/-- The last grid point. -/
abbrev last : Fin cfg0.N := ⟨24, last_lt⟩

/-- The one-number array the kernel leaves. -/
abbrev stored : Vec F S1x1 .f32 := lossOut (iblk m c 1 last) (sums c m 24 last_lt) (poss c m 24 last_lt)

/-- What the output window writes back at the last point is that array, whole. -/
theorem flushed_eq (t : Fin cfg0.N) (hf : (cfg0.win 4).flush t = true) :
    (dats m 0 c).flushed 4 t = ((cfg0.win 4).blk t).view.read (Elt F) (stored m c) := by
  have hN : cfg0.N = 25 := N_0
  have h3 : t.val = 24 := by have := (flush0_4 t).mp hf; have := t.isLt; omega
  obtain rfl : t = last := Fin.ext h3
  show (cfg0.win 4).cut (grid0.coords last) ((dats m 0 c).after 4 last) = _
  rw [after0_4, loss_stored]
  have hz : (fun a => win0_4.index last a * main_call0_v1.ty.shape.size a) = fun _ => 0 :=
    funext fun a => by fin_cases a <;> decide +kernel
  exact (Memref.read_access_unit_zero (Elt F) main_call0_v1 hz (fun a => by rw [congrFun hz a]; simp) (stored m c)).symm

/-- So the output array ends holding it. -/
theorem array_final : (dats m 0 c).arrAt 4 cfg0.N = stored m c :=
  (dats m 0 c).arrAt_eq_of_cover 4 (stored m c) (flushed_eq m c) fun i =>
    ⟨last, (flush0_4 last).mpr rfl, by
      show i ∈ ((View.whole main_call0_v1).slice (win0_4.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index last 0 * win0_4.size 0 ≤ (i 0 : Nat)
          ∧ (i 0 : Nat) < win0_4.index last 0 * win0_4.size 0 + win0_4.xsize (grid0.coords last) 0
        rw [show win0_4.index last 0 * win0_4.size 0 = 0 from by decide +kernel,
          show win0_4.xsize (grid0.coords last) 0 = 1 from by decide +kernel]
        omega
      | ⟨1, _⟩ =>
        show win0_4.index last 1 * win0_4.size 1 ≤ (i 1 : Nat)
          ∧ (i 1 : Nat) < win0_4.index last 1 * win0_4.size 1 + win0_4.xsize (grid0.coords last) 1
        rw [show win0_4.index last 1 * win0_4.size 1 = 0 from by decide +kernel,
          show win0_4.xsize (grid0.coords last) 1 = 1 from by decide +kernel]
        omega⟩

/-- The scalar result: the array's one entry. -/
abbrev result : Vec F S_ .f32 := fun _ => stored m c (ix2 0 0)

/-- The operation after the kernel reshapes the array into the scalar result. -/
theorem tail_result :
    (Pipeline.afterTail₀ cfgs (dats m) 0 (V0 m) [hostOps1] c main_v0 : Vec F S_ .f32) = result m c := by
  funext j
  have hw := Pipeline.withArrays_arr_shared (cfgs 0).spec c (V0 m c) (fun w => (dats m 0 c).arrAt w (cfgs 0).N)
    ((dats m 0 c).arrAt_sharedIn sharedIn0 (V0 m c) (A_eq m c) _) 4
  unfold Pipeline.afterTail₀
  after_reads_at
  show _ = stored m c (ix2 0 0)
  rw [← array_final]
  exact congrFun hw _

/-- THE RUN: from any memory with zero counters, the scalar result ends at that number and the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).2 main_v0 (Pipeline.mem_restRefs_of main_v0 (by decide) (by decide))).trans
    (tail_result m c), h.2 c⟩) (θ_run_and (run_main m ρ) (unchanged m ρ))

end Cert.KernelIdeal.Steps
-- ==== Proof.RefRows.lean ====
/- The reference's similarities: its table of them at an entry, and the entry of a row's own label, which it reads out of
   the table by a gather whose indices it wraps and masks.  For a label below five nothing wraps and nothing is masked. -/
module

public import proofs.«01_k».proof.Proof.Gen.ReferenceIdeal.Read
public import proofs.«01_k».proof.Proof.Algebra
public import Idealize.ShloMosaic.Lib.Pointwise

@[expose] public section

set_option maxRecDepth 16384

noncomputable section

namespace Cert.ReferenceIdeal.Loss

open Cert.ReferenceIdeal Cert.ReferenceIdeal.Read Idealize.ShloMosaic Idealize.SL.Sem

/-! ## The constants -/

/-- The floor of a row's length, the real number nearest `1e-12` among the 32-bit floats. -/
abbrev epsR : ℝ := 2305843 / 2305843009213693952
/-- The temperature, the real number nearest `0.3` among the 32-bit floats. -/
abbrev tempR : ℝ := 5033165 / 16777216

theorem word_eps : Ideal.ofBits .f32 0x2B8CBCCC#32 = ((epsR : ℝ) : EReal) := by
  simp [Ideal.ofBits, Ideal.ieee, -EReal.coe_mul]; norm_num

theorem word_temp : Ideal.ofBits .f32 0x3E99999A#32 = ((tempR : ℝ) : EReal) := by
  simp [Ideal.ofBits, Ideal.ieee, -EReal.coe_mul]; norm_num

theorem word_inf : Ideal.ofBits .f32 0x7F800000#32 = ⊤ := by
  simp [Ideal.ofBits, Ideal.ieee]

theorem word_sixty_four : Ideal.ofBits .f32 0x42800000#32 = ((64 : ℝ) : EReal) := by
  simp [Ideal.ofBits, Ideal.ieee, -EReal.coe_mul]; norm_num

/-! ## The similarities -/

/-- The similarity of feature row `b` with a bank row `w`: the row over its floored length, times the bank row, over
    the temperature. -/
def sim (x0 : Vec Ideal S64x128 .f32) (b : Fin 64) (w : Fin 128 → EReal) : EReal :=
  Ideal.div (∑ d : Fin 128, Ideal.div (x0 (ix2 b d))
    (max (Ideal.sqrt (∑ e : Fin 128, x0 (ix2 b e) * x0 (ix2 b e))) ((epsR : ℝ) : EReal)) * w d) ((tempR : ℝ) : EReal)

/-- The reference's table of similarities. -/
theorem sims_at (x0 : Vec Ideal S64x128 .f32) (x2 : Vec Ideal S500000x128 .f32) (b : Fin 64) (n : Fin 500000) :
    val_main_v8 (F := Ideal) x0 x2 (ix2 b n) = sim x0 b (fun d => x2 (ix2 n d)) := by
  pointwise [val_main_v8, val_main_v6, val_main_v5, val_main_v4, val_main_v3, val_main_v2, val_main_v0,
    val_main_call0_v2, val_main_call0_v1, val_main_call0_v0, val_main_v1, val_main_v7, val_main_cst, val_main_cst_0,
    val_main_call0_cst, word_eps, word_temp, sim]

/-! ## The row of the label -/

/-- The label's first row number as a word: the product does not wrap and is not negative. -/
theorem words_row : ∀ k : Fin 5,
    Scalar.select (IntOp.cmpi .slt (IntOp.muli (BitVec.ofNat 32 k.val) 100000#32) 0#32)
      (IntOp.addi (IntOp.muli (BitVec.ofNat 32 k.val) 100000#32) 500000#32)
      (IntOp.muli (BitVec.ofNat 32 k.val) 100000#32) = BitVec.ofNat 32 (k.val * 100000)
    ∧ IntOp.andi (IntOp.andi (IntOp.cmpi .sge (BitVec.ofNat 32 (k.val * 100000)) 0#32)
        (IntOp.cmpi .sle (BitVec.ofNat 32 (k.val * 100000)) 499999#32)) 1#1 = 1#1
    ∧ (BitVec.ofNat 32 (k.val * 100000)).toInt.toNat = k.val * 100000 := by
  decide

variable (x0 : Vec Ideal S64x128 .f32) (x1 : Vec Ideal S64 .i32) (x2 : Vec Ideal S500000x128 .f32)
  (b : Fin 64) (k : ℕ) (hk : k < 5) (hl : x1 (ix1 b) = BitVec.ofNat 32 k)

include hk hl in
/-- The start index of the read along the rows. -/
theorem start_at : val_main_call1_v5 (F := Ideal) x1 (ix3 b 0 0) = BitVec.ofNat 32 (k * 100000) := by
  pointwise [val_main_call1_v5, val_main_call1_v4, val_main_call1_v3, val_main_call1_v2, val_main_call1_v1,
    val_main_call1_v0, val_main_v11, val_main_v10, val_main_v9, val_main_c, val_main_call1_c, val_main_call1_c_0]
  rw [hl]
  exact (words_row ⟨k, hk⟩).1

include hk hl in
/-- The read is in range. -/
theorem mask_at : val_main_call1_v12 (F := Ideal) x1 (ix2 b 0) = 1#1 := by
  pointwise [val_main_call1_v12, val_main_call1_v11, val_main_call1_v10, val_main_call1_v7, val_main_call1_v6,
    val_main_call1_v8, val_main_call1_v9, val_main_call1_c_1, val_main_call1_c_2, val_main_call1_c_3]
  rw [Finset.univ_unique, Finset.fold_singleton]
  show IntOp.andi (IntOp.andi (IntOp.cmpi .sge (val_main_call1_v5 (F := Ideal) x1 (ix3 b 0 0)) 0#32)
    (IntOp.cmpi .sle (val_main_call1_v5 (F := Ideal) x1 (ix3 b 0 0)) 499999#32)) 1#1 = 1#1
  rw [start_at x1 b k hk hl]
  exact (words_row ⟨k, hk⟩).2.1

/-- A read of one element of each row at that row's own start index. -/
theorem gather_at {α : Type} (y : S64x500000.Idx → α) (idx : IVec S64x1x1 32) (b : Fin 64) (n : Fin 500000)
    (hn : (idx (ix3 b 0 0)).toInt.toNat = n.val) :
    Host.gather gather_S64x500000_S64x1x1_S64x1_n_1_0_0_1_2_11 y idx (ix2 b 0) = y (ix2 b n) := by
  set D := gather_S64x500000_S64x1x1_S64x1_n_1_0_0_1_2_11 with hD
  unfold Host.gather
  congr 1
  funext a
  refine Fin.ext ?_
  show D.start (ix2 b 0) idx a + D.batchCoord (ix2 b 0) a + D.offCoord (ix2 b 0) a = (ix2 b n a).val
  match a with
  | ⟨0, _⟩ =>
    show D.start (ix2 b 0) idx 0 + D.batchCoord (ix2 b 0) 0 + D.offCoord (ix2 b 0) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ D.operandBatchingDims from List.mem_singleton.mpr rfl)]
    rfl
  | ⟨1, _⟩ =>
    show D.start (ix2 b 0) idx 1 + D.batchCoord (ix2 b 0) 1 + D.offCoord (ix2 b 0) 1 = n.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ D.startIndexMap from List.mem_singleton.mpr rfl)]
    have hs : D.siIdx (ix2 b 0) ⟨List.idxOf (1 : Fin 2) D.startIndexMap,
        List.idxOf_lt_length_iff.2 (List.mem_singleton.mpr rfl)⟩ = ix3 b 0 0 := by
      funext e
      refine Fin.ext ?_
      match e with
      | ⟨0, _⟩ => rfl
      | ⟨1, _⟩ => rfl
      | ⟨2, _⟩ => rfl
    rw [hs, hn]
    exact Nat.min_eq_left (Nat.le_of_lt_succ n.isLt)

include hk hl in
/-- So the reference's positive similarity is the one with bank row `100000 k`. -/
theorem positive_at : val_main_v13 (F := Ideal) x0 x1 x2 (ix1 b)
    = sim x0 b (fun d => x2 (ix2 ⟨k * 100000, by omega⟩ d)) := by
  pointwise [val_main_v13, val_main_v12]
  rw [mask_at x1 b k hk hl, ← sims_at]
  show val_main_call1_v13 (F := Ideal) x0 x1 x2 (ix2 b 0) = _
  unfold val_main_call1_v13
  refine gather_at _ _ b ⟨k * 100000, by omega⟩ ?_
  rw [start_at x1 b k hk hl]
  exact (words_row ⟨k, hk⟩).2.2

end Cert.ReferenceIdeal.Loss
-- ==== Proof.RefLoss.lean ====
/- What the reference computes: the weighted mean over the sixty-four feature rows of the logarithm of the sum of
   exponentials of the row's similarities, less its similarity with its own label's first bank row.

   The reference subtracts a shift from every similarity before exponentiating and adds it back after the logarithm.
   The shift is some real number, and any real shift gives the same value, so the maximum it is taken from is never read. -/
module

public import proofs.«01_k».proof.Proof.RefRows

@[expose] public section

set_option maxRecDepth 16384

noncomputable section

namespace Cert.ReferenceIdeal.Loss

open Cert.ReferenceIdeal Cert.ReferenceIdeal.Read Idealize.ShloMosaic Idealize.SL.Sem

variable (x0 : Vec Ideal S64x128 .f32) (x1 : Vec Ideal S64 .i32) (x2 : Vec Ideal S500000x128 .f32) (b : Fin 64)

/-! ## The logarithm of the sum of exponentials -/

/-- The shift is some real number. -/
theorem shift_at : ∃ g : ℝ, val_main_v19 (F := Ideal) x0 x2 (ix2 b 0) = (g : EReal) := by
  rw [val_main_v19_apply, val_main_v18_apply, val_main_v16_apply]
  generalize val_main_v15 (F := Ideal) x0 x2 (ix2 b 0) = y
  obtain ⟨g, hg⟩ := Cert.Math.guarded_real y
  refine ⟨g, Eq.trans ?_ hg⟩
  pointwise [val_main_v17, val_main_cst_2, val_main_call2_v1, val_main_call2_v0, val_main_cst_3, word_inf]
  have h0 : id (constant (F := Ideal) S_ .f32 0x00000000#32) ix0 = (0 : EReal) := Ideal.ofBits_zero_f32
  rw [h0]
  rfl

/-- The reference's shifted form is the logarithm of the sum of exponentials. -/
theorem lse_at : val_main_v27 (F := Ideal) x0 x2 (ix1 b)
    = Ideal.log (∑ n : Fin 500000, Ideal.exp (sim x0 b (fun d => x2 (ix2 n d)))) := by
  pointwise [val_main_v27, val_main_v26, val_main_v25, val_main_v24, val_main_v23, val_main_v22, val_main_v21,
    val_main_v20, val_main_cst_4, sims_at]
  obtain ⟨g, hg⟩ := shift_at x0 x2 b
  rw [hg]
  exact Cert.Math.logsumexp_shift Finset.univ g fun n : Fin 500000 => sim x0 b (fun d => x2 (ix2 n d))

/-! ## The weights and the mean -/

/-- For a label below five, the search among zero and one is the comparison with one. -/
theorem words_weight : ∀ k : Fin 5,
    Finset.fold IntOp.ori (0#1) (fun x : Fin 2 => IntOp.cmpi .eq (BitVec.ofNat 32 k.val) (BitVec.ofNat 32 x.val))
      Finset.univ = IntOp.cmpi .sle (BitVec.ofNat 32 k.val) 1#32 := by
  decide

/-- A row's weight: the larger one for the labels up to one. -/
abbrev weight (l : BitVec 32) : EReal :=
  Scalar.select (IntOp.cmpi .sle l 1#32) (Ideal.ofBits .f32 0x3FA66666#32) 1

theorem weight_at (k : ℕ) (hk : k < 5) (hl : x1 (ix1 b) = BitVec.ofNat 32 k) :
    val_main_v37 (F := Ideal) x1 (ix1 b) = weight (BitVec.ofNat 32 k) := by
  show val_main_v36 (F := Ideal) x1 (ix1 b) = _
  pointwise [val_main_v36, val_main_v35, val_main_v34, val_main_v33, val_main_v32, val_main_v31, val_main_v30,
    val_main_v29, val_main_c_5, val_main_call3_v0, val_main_call3_v1, val_main_cst_6, val_main_cst_7]
  rw [hl, words_weight ⟨k, hk⟩]

/-- THE REFERENCE'S RESULT, for labels `k b` below five. -/
theorem loss_at (k : Fin 64 → Fin 5) (hl : ∀ b, x1 (ix1 b) = BitVec.ofNat 32 (k b).val) :
    val_main_v40 (F := Ideal) x0 x1 x2 ix0 =
      Ideal.div (∑ b : Fin 64, weight (BitVec.ofNat 32 (k b).val) *
        (Ideal.log (∑ n : Fin 500000, Ideal.exp (sim x0 b (fun d => x2 (ix2 n d))))
          - sim x0 b (fun d => x2 (ix2 ⟨(k b).val * 100000, by omega⟩ d)))) ((64 : ℝ) : EReal) := by
  pointwise [val_main_v40, val_main_v39, val_main_v38, val_main_v28, val_main_cst_8, val_main_cst_9, word_sixty_four]
  congr 1
  refine Finset.sum_congr rfl fun b _ => ?_
  rw [weight_at x1 b (k b).val (k b).isLt (hl b), lse_at, positive_at x0 x1 x2 b (k b).val (k b).isLt (hl b)]

end Cert.ReferenceIdeal.Loss
-- ==== Proof.Equation.lean ====
/- The two values are one number: the kernel's shifted sum of powers of two, undone by its constants, is the reference's
   logarithm of the sum of exponentials, row by row. -/
module

public import proofs.«01_k».proof.Proof.Columns
public import proofs.«01_k».proof.Proof.KernelRun
public import proofs.«01_k».proof.Proof.RefLoss

@[expose] public section

set_option maxRecDepth 16384

noncomputable section

namespace Cert.Equation

open Cert.KernelIdeal Cert.KernelIdeal.Gen Cert.KernelIdeal.Steps
open Idealize.ShloMosaic Idealize.ShloMosaic.TcCoe Idealize.SL.Sem

/-- The kernel's similarity is the reference's over the logarithm of two: the reciprocal root of the larger of the squares
    is one over the larger of the lengths, and the scale takes the temperature and the base in one product. -/
theorem sim_eq (x0 : Vec Ideal S64x128 .f32) (b : Fin 64) (w : Fin 128 → EReal) :
    Steps.sim x0 b w = (((Real.log 2)⁻¹ : ℝ) : EReal) * ReferenceIdeal.Loss.sim x0 b w :=
  Cert.Math.similarity Steps.epsR Steps.tempR (Real.log 2) (by norm_num) (by norm_num) (Real.log_pos (by norm_num))
    (fun d => x0 (ix2 b d)) w

variable (m : (ℓ : Loc nD τ sig) → Buf (Elt Ideal) ℓ) (c : Dev nD)

/-- The bank as launched. -/
abbrev bank : Vec Ideal S500000x128 .f32 := m (c.tc.loc main_arg2)

/-- A row of the bank within its range. -/
theorem bankRow_val (n : Fin 500000) : bankRow m c n.val = fun d => bank m c (ix2 n d) := by
  funext d
  unfold bankRow
  rw [show Fin.ofNat 500000 n.val = n from Fin.ext (Nat.mod_eq_of_lt n.isLt)]

/-- One row's loss: the kernel's two columns give the reference's. -/
theorem row_eq (b : Fin 64) (k : Fin 5) (hl : label m c b = BitVec.ofNat 32 k.val) :
    ((40 * Real.log 2 : ℝ) : EReal) + Ideal.log (sums c m 24 last_lt (ix2 b 0))
        - ((Real.log 2 : ℝ) : EReal) * poss c m 24 last_lt (ix2 b 0)
      = Ideal.log (∑ n : Fin 500000, Ideal.exp (ReferenceIdeal.Loss.sim (feats m c) b (fun d => bank m c (ix2 n d))))
        - ReferenceIdeal.Loss.sim (feats m c) b (fun d => bank m c (ix2 ⟨k.val * 100000, by omega⟩ d)) := by
  rw [sums_final, poss_final m c last_lt b k.val k.isLt hl, Finset.sum_range]
  simp only [simRow, sim_eq]
  rw [Cert.Math.ln2_undo, Cert.Math.logsumexp_base_two Finset.univ fun n : Fin 500000 =>
      ReferenceIdeal.Loss.sim (feats m c) b (bankRow m c n.val)]
  simp only [bankRow_val]
  rw [bankRow_val m c ⟨k.val * 100000, by omega⟩]

/-- THE EQUATION: for labels below five the number the kernel stores is the reference's result. -/
theorem value_eq (k : Fin 64 → Fin 5) (hl : ∀ b, label m c b = BitVec.ofNat 32 (k b).val) :
    stored m c (ix2 0 0) = ReferenceIdeal.Read.val_main_v40 (F := Ideal) (feats m c)
      (m (c.tc.loc main_arg1) : Vec Ideal S64 .i32) (bank m c) ix0 := by
  rw [ReferenceIdeal.Loss.loss_at (feats m c) _ (bank m c) k hl, Cert.Math.div_sixty_four]
  refine (lossOut_apply _ _ _).trans (congrArg (· * ((1 / 64 : ℝ) : EReal)) ?_)
  refine Finset.sum_congr rfl fun b _ => ?_
  rw [row_eq m c b (k b) (hl b), labels_block]
  show weightK (label m c b) * _ = _
  rw [hl b]

end Cert.Equation
-- ==== Proof.Labels.lean ====
/- The precondition read at a row: a label that passes it is the word of a number below five. -/
module

public import proofs.«01_k».proof.Proof.Gen.Pre_labels_in_range
public import Idealize.ShloMosaic.Lib.Pointwise

@[expose] public section

noncomputable section

namespace Cert.Labels

open Idealize.ShloMosaic

/-- A word that is not negative and less than five, as signed numbers, is one of five. -/
theorem word_below_five (l : BitVec 32)
    (h : IntOp.andi (IntOp.cmpi .sge l 0#32) (IntOp.cmpi .slt l 5#32) = 1#1) : ∃ k : Fin 5, l = BitVec.ofNat 32 k.val := by
  have h0 : (0#32).sle l = true ∧ l.slt 5#32 = true := by
    revert h
    show BitVec.ofBool ((0#32).sle l) &&& BitVec.ofBool (l.slt 5#32) = 1#1 → _
    cases (0#32).sle l <;> cases l.slt 5#32 <;> decide
  have h1 : (0 : ℤ) ≤ l.toInt := by simpa [BitVec.sle] using h0.1
  have h2 : l.toInt < 5 := by simpa [BitVec.slt] using h0.2
  have h3 : l.toNat < 5 := by
    rw [BitVec.toInt_eq_toNat_cond] at h1 h2
    have := l.isLt
    split at h1 <;> omega
  exact ⟨⟨l.toNat, h3⟩, (BitVec.ofNat_toNat 32 l).symm.trans (by simp)⟩

/-- The precondition gives every row's label a number below five. -/
theorem of_pre (x0 : FVec Ideal Pre_labels_in_range.S64x128 .f32) (x1 : IVec Pre_labels_in_range.S64 32)
    (x2 : FVec Ideal Pre_labels_in_range.S500000x128 .f32) (x3 : IVec Pre_labels_in_range.S5 32)
    (h : Pre_labels_in_range.fn (F := Ideal) x0 x1 x2 x3 = fun _ => 1#1) :
    ∃ k : Fin 64 → Fin 5, ∀ b, x1 (ix1 b) = BitVec.ofNat 32 (k b).val := by
  have hb : ∀ b : Fin 64, ∃ k : Fin 5, x1 (ix1 b) = BitVec.ofNat 32 k.val := fun b => by
    have e := congrFun h (ix1 b)
    pointwise [Pre_labels_in_range.fn] at e
    exact word_below_five _ e
  exact ⟨fun b => (hb b).choose, fun b => (hb b).choose_spec⟩

end Cert.Labels
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labels_in_range
public import proofs.«01_k».proof.Proof.Equation
public import proofs.«01_k».proof.Proof.Labels
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs at the bit patterns, and leaves its arguments and every counter as they were. -/
theorem frame_kernel : Cert.quiescent_Kernel (hKernel := Cert.Kernel.Gen.facts) :=
  fun m ρ _ => Cert.Kernel.Gen.frame m ρ

/-- The idealized kernel does, over the extended reals. -/
theorem frame_ideal : Cert.quiescent_KernelIdeal (hKernelIdeal := Cert.KernelIdeal.Gen.facts) :=
  fun m ρ _ => Cert.KernelIdeal.Gen.frame m ρ

/-- So it does under the precondition. -/
theorem frame_ideal_pre : Cert.quiescent_KernelIdeal_pre_labels_in_range
    (hKernelIdeal := Cert.KernelIdeal.Gen.facts) (hPre_labels_in_range := Cert.Pre_labels_in_range.Gen.facts) :=
  fun m ρ _ => Cert.KernelIdeal.Gen.frame m ρ

/-- The reference does: it declares no counter at all. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems rfl r.2⟩) (Cert.ReferenceIdeal.Value.run m ρ)

/-- So it does under the precondition. -/
theorem frame_reference_pre : Cert.quiescent_ReferenceIdeal_pre_labels_in_range
    (hReferenceIdeal := Cert.ReferenceIdeal.Gen.facts) (hPre_labels_in_range := Cert.Pre_labels_in_range.Gen.facts) :=
  fun m ρ _ => frame_reference m ρ trivial

/-- Each named constant is the real number its name stands for. -/
theorem preserves : Cert.preserves_Kernel_KernelIdeal :=
  ⟨IdealRules.named_const.statement _ _ .f32 _ _ rfl, IdealRules.named_const.statement _ _ .f32 _ _ rfl,
    IdealRules.named_const.statement _ _ .f32 _ _ rfl, IdealRules.named_const.statement _ _ .f32 _ _ rfl⟩

/-- The idealized kernel and the reference end with the same number. -/
theorem algebraic : Cert.algebraic_KernelIdeal_ReferenceIdeal_pre_labels_in_range
    (hKernelIdeal := Cert.KernelIdeal.Gen.facts) (hReferenceIdeal := Cert.ReferenceIdeal.Gen.facts)
    (hPre_labels_in_range := Cert.Pre_labels_in_range.Gen.facts) := by
  intro m ρ m' ρ' hpre hagree
  refine ⟨fun c => Cert.KernelIdeal.Steps.result m c, Cert.KernelIdeal.Steps.run m ρ, ?_⟩
  refine (θ_run Cert.ReferenceIdeal.defs _ _).mono (fun r h c => ⟨(h c).1.trans ?_, (h c).2⟩)
    (Cert.ReferenceIdeal.Value.run m' ρ')
  obtain ⟨k, hk⟩ := Cert.Labels.of_pre _ _ _ _ (hpre c)
  obtain ⟨e0, e1, e2, _⟩ := hagree c
  rw [Cert.ReferenceIdeal.Read.val_main_v40_eq, e0, e1, e2]
  funext j
  rw [show j = ix0 from funext fun a => a.elim0]
  exact (Cert.Equation.value_eq m c k hk).symm

theorem claim : Cert.Claim := ⟨Cert.Kernel.Gen.facts, Cert.KernelIdeal.Gen.facts, Cert.ReferenceIdeal.Gen.facts,
  Cert.Pre_labels_in_range.Gen.facts, frame_kernel, frame_ideal, frame_ideal_pre, frame_reference, frame_reference_pre,
  preserves, algebraic⟩

end Cert.Proof

end
